-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x4096 : Shape := ⟨3, ![2, 4096, 4096]⟩
abbrev S1x4096x512 : Shape := ⟨3, ![1, 4096, 512]⟩
abbrev S4096x512 : Shape := ⟨2, ![4096, 512]⟩
abbrev S128x128 : Shape := ⟨2, ![128, 128]⟩
abbrev S512 : Shape := ⟨1, ![512]⟩
abbrev S128x512 : Shape := ⟨2, ![128, 512]⟩
abbrev S1x512 : Shape := ⟨2, ![1, 512]⟩
abbrev S1x128x512 : Shape := ⟨3, ![1, 128, 512]⟩

abbrev nBuf : Space → Nat
  | .hbm => 2
  | .vmem => 4
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .local _ .vmem, ⟨0, _⟩ => ⟨S1x4096x512, .f32⟩
  | .local _ .vmem, ⟨1, _⟩ => ⟨S1x4096x512, .f32⟩
  | .local _ .vmem, ⟨2, _⟩ => ⟨S1x4096x512, .f32⟩
  | .local _ .vmem, ⟨3, _⟩ => ⟨S1x4096x512, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S2x4096x4096 : Shape := ⟨3, ![2, 4096, 4096]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S_, .f32⟩
  | .hbm, ⟨2, _⟩ => ⟨S_, .f32⟩
  | .hbm, ⟨3, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Chunks.lean ====
/-
  The body of the kernel, restated as a recursion over the 32 row chunks of a block.

  One grid point holds a block of 4096 rows and 512 columns. The body cuts the rows into 32 chunks of 128. For each
  chunk it multiplies the lower triangular matrix of ones with the chunk and adds a carry, the last row of the chunk
  before (zero for the first chunk). The body is unrolled in the program. Here it is a recursion on the number of the
  chunk, and the buffer that the unrolled body leaves is shown to be the one that the recursion leaves.
-/
module

public import proofs.«01_k».proof.Proof.Gen.KernelIdeal.Frame

@[expose] public section

set_option maxRecDepth 16384

noncomputable section

namespace Cert.KernelIdeal.Scan

open Cert.KernelIdeal Cert.KernelIdeal.Gen Idealize.ShloMosaic Idealize.SL.Sem

variable {F : FTy → Type} [FloatOps F]

/-- Rows `128 k … 128 k + 127` lie inside the 4096 rows of a block. -/
theorem rows_slices (k : Fin 32) : S4096x512.Slices ![128 * k.val, 0] S128x512 :=
  ⟨rfl, fun a => match a with
    | ⟨0, _⟩ => by show 128 * k.val + 128 ≤ 4096; omega
    | ⟨1, _⟩ => Nat.le_refl 512⟩

/-- The same of a block with its leading unit axis: the rectangle of chunk `k` is inside the block. -/
theorem rect_inb (k : Fin 32) : ∀ a, (![0, 128 * k.val, 0] : Fin 3 → Nat) a + S1x128x512.size a ≤ S1x4096x512.size a
  | ⟨0, _⟩ => Nat.le_refl 1
  | ⟨1, _⟩ => by show 128 * k.val + 128 ≤ 4096; omega
  | ⟨2, _⟩ => Nat.le_refl 512

/-- Chunk `k` of the rows of a block. -/
def chunkRows (v : FVec F S4096x512 .f32) (k : Fin 32) : FVec F S128x512 .f32 :=
  extractStridedSlice S128x512 ![128 * k.val, 0] v (rows_slices k)

/-- What the body computes of one chunk: the triangular product of the chunk, plus the carry in every row. -/
def chunkStep (tri : FVec F S128x128 .bf16) (x : FVec F S128x512 .f32) (carry : FVec F S512 .f32) : FVec F S128x512 .f32 :=
  addf (matmul dot_S128x128_S128x512_S128x512_1_0_0_1_n_n none tri (truncf .bf16 x bitsLt_bf16_f32)
      (constant S128x512 .f32 0x00000000#32))
    (broadcastTo S128x512 (shapeCast S1x512 carry shapeCasts_S512_S1x512) broadcasts_S1x512_S128x512)

/-- The carry that a chunk's result hands on: its last row. -/
def lastRow (y : FVec F S128x512 .f32) : FVec F S512 .f32 :=
  shapeCast S512 (extractStridedSlice S1x512 ![127, 0] y slices_S128x512_o127_0_S1x512) shapeCasts_S1x512_S512

/-- The result of chunk `k` of a block: the carry before the first chunk is zero. -/
def chunkOut (x : Vec F S1x4096x512 .f32) : Nat → FVec F S128x512 .f32
  | 0 => chunkStep (k0_pay7 (F := F)) (chunkRows (k0_pay6 x) (Fin.ofNat 32 0)) (broadcast S512 (Scalar.ofBits .f32 0x00000000#32))
  | k + 1 => chunkStep (k0_pay7 (F := F)) (chunkRows (k0_pay6 x) (Fin.ofNat 32 (k + 1))) (lastRow (chunkOut x k))

/-- The store of chunk `k`: its rectangle of the block, and its result. -/
def chunkPiece (x : Vec F S1x4096x512 .f32) (k : Fin 32) : View.Piece (Elt F) S1x4096x512 .f32 :=
  ⟨Rect.unit (s := S1x4096x512) ![0, 128 * k.val, 0] S1x128x512.size (rect_inb k),
    shapeCast S1x128x512 (chunkOut x k.val) shapeCasts_S128x512_S1x128x512⟩

/-- The buffer that the unrolled body leaves is the buffer that the 32 stores of the recursion leave, the last first. -/
theorem out_eq (x0 : Vec F S1x4096x512 .f32) :
    out0_1 x0 = View.canon ((List.finRange 32).reverse.map (chunkPiece (View.ld x0 r0_0))) := by
  have h : (List.finRange 32).reverse = [31, 30, 29, 28, 27, 26, 25, 24, 23, 22, 21, 20, 19, 18, 17, 16, 15, 14, 13, 12,
      11, 10, 9, 8, 7, 6, 5, 4, 3, 2, 1, 0] := by decide
  rw [h]
  rfl

end Cert.KernelIdeal.Scan

end
-- ==== Proof.ChunkValue.lean ====
/-
  The value of a chunk over the extended reals: row `r` of chunk `k` holds, in each column, the sum of the block's rows
  `0 … 128 k + r`.
-/
module

public import proofs.«01_k».proof.Proof.Chunks
public import Idealize.ShloMosaic.PureOps.Ideal
public import Idealize.ShloMosaic.Lib.Pointwise

@[expose] public section

set_option maxRecDepth 16384

noncomputable section

namespace Cert.KernelIdeal.Scan

open Cert.KernelIdeal Cert.KernelIdeal.Gen Idealize.ShloMosaic Idealize.SL.Sem
open scoped BigOperators

/-- A zero-one weight on `128` terms, one up to position `r` and zero after it, selects the first `r + 1` terms. -/
theorem sum_weighted (f : ℕ → EReal) (r : Fin 128) :
    (∑ j : Fin 128, (if j.val ≤ r.val then (1 : EReal) else 0) * f j.val) = ∑ i ∈ Finset.range (r.val + 1), f i := by
  rw [Fin.sum_univ_eq_sum_range (fun j => (if j ≤ r.val then (1 : EReal) else 0) * f j) 128]
  rw [← Finset.sum_subset (Finset.range_subset_range.2 (by omega : r.val + 1 ≤ 128))]
  · refine Finset.sum_congr rfl fun i hi => ?_
    rw [if_pos (by have := Finset.mem_range.1 hi; omega), one_mul]
  · intro i _ hi
    rw [if_neg (by have := mt Finset.mem_range.2 hi; omega), zero_mul]

/-- The comparison `j ≤ r` of two numbers below 128, as a 32-bit word read as an integer: one or zero. -/
theorem le_word (r j : Fin 128) :
    ((BitVec.setWidth 32 (IntOp.cmpi .sle (BitVec.ofNat 32 j.val) (BitVec.ofNat 32 r.val))).toInt : ℤ)
      = if j.val ≤ r.val then 1 else 0 := by
  revert r j
  decide +kernel

/-- The triangular matrix: entry `(r, j)` is one where `j ≤ r` and zero elsewhere. -/
theorem tri_apply (r j : Fin 128) :
    k0_pay7 (F := Ideal) (ix2 r j) = if j.val ≤ r.val then (1 : EReal) else 0 := by
  unfold k0_pay7
  pointwise
  show (((BitVec.setWidth 32 (IntOp.cmpi .sle (BitVec.ofNat 32 j.val) (BitVec.ofNat 32 r.val))).toInt : ℝ) : EReal) = _
  rw [le_word]
  split <;> simp

/-- One chunk's step, read at row `r` and column `c`: the sum of the chunk's rows up to `r`, plus the carry. -/
theorem chunkStep_apply (x : FVec Ideal S128x512 .f32) (carry : FVec Ideal S512 .f32) (r : Fin 128) (c : Fin 512)
    (f : ℕ → EReal) (hf : ∀ j : Fin 128, x (ix2 j c) = f j.val) :
    chunkStep (k0_pay7 (F := Ideal)) x carry (ix2 r c) = (∑ i ∈ Finset.range (r.val + 1), f i) + carry (ix1 c) := by
  unfold chunkStep
  pointwise [dot_S128x128_S128x512_S128x512_1_0_0_1_n_n, tri_apply, hf]
  rw [sum_weighted]

/-- The carry in column `c` is the last row's entry there. -/
theorem lastRow_apply (y : FVec Ideal S128x512 .f32) (c : Fin 512) : lastRow y (ix1 c) = y (ix2 127 c) := by
  unfold lastRow
  pointwise

/-- Row `j` of chunk `k` is row `128 k + j` of the block. -/
theorem chunkRows_apply (x : Vec Ideal S1x4096x512 .f32) (k : Fin 32) (j : Fin 128) (c : Fin 512) :
    chunkRows (k0_pay6 x) k (ix2 j c) = x (ix3 0 ⟨128 * k.val + j.val, by omega⟩ c) := by
  unfold chunkRows k0_pay6
  pointwise

/-- A column of a block, its rows numbered by the naturals (zero past the last row). -/
def column (x : Vec Ideal S1x4096x512 .f32) (c : Fin 512) (i : ℕ) : EReal :=
  if h : i < 4096 then x (ix3 0 ⟨i, h⟩ c) else 0

/-- Row `r` of chunk `k` of the result holds in column `c` the sum of the block's rows `0 … 128 k + r`. -/
theorem chunkOut_apply (x : Vec Ideal S1x4096x512 .f32) (c : Fin 512) :
    ∀ (k : ℕ), k < 32 → ∀ r : Fin 128,
      chunkOut x k (ix2 r c) = ∑ i ∈ Finset.range (128 * k + r.val + 1), column x c i := by
  have hrows : ∀ k (hk : k < 32) (j : Fin 128),
      chunkRows (k0_pay6 x) (Fin.ofNat 32 k) (ix2 j c) = column x c (128 * k + j.val) := by
    intro k hk j
    have e : (Fin.ofNat 32 k) = ⟨k, hk⟩ := Fin.ext (Nat.mod_eq_of_lt hk)
    rw [e, chunkRows_apply, column, dif_pos (by omega)]
  intro k
  induction k with
  | zero =>
    intro hk r
    unfold chunkOut
    rw [chunkStep_apply _ _ r c (fun i => column x c (128 * 0 + i)) (hrows 0 hk)]
    pointwise
  | succ k ih =>
    intro hk r
    unfold chunkOut
    rw [chunkStep_apply _ _ r c (fun i => column x c (128 * (k + 1) + i)) (hrows (k + 1) hk), lastRow_apply, ih (by omega),
      add_comm, show 128 * (k + 1) + r.val + 1 = (128 * k + (127 : Fin 128).val + 1) + (r.val + 1) from by
        show _ = 128 * k + 127 + 1 + (r.val + 1); omega,
      Finset.sum_range_add _ (128 * k + (127 : Fin 128).val + 1) (r.val + 1)]
    rfl

end Cert.KernelIdeal.Scan

end
-- ==== Proof.RefValue.lean ====
/-
  The value of the reference over the extended reals: the windowed sum that a cumulative sum prints as, read at an
  index, is the sum of a prefix of the rows.
-/
module

public import proofs.«01_k».proof.Proof.Gen.ReferenceIdeal.Run
public import Idealize.ShloMosaic.PureOps.Ideal
public import Idealize.ShloMosaic.Lib.Pointwise

@[expose] public section

set_option maxRecDepth 16384

noncomputable section

namespace Cert.ReferenceIdeal.Scan

open Cert.ReferenceIdeal Cert.ReferenceIdeal.Gen Idealize.ShloMosaic Idealize.SL.Sem
open scoped BigOperators

/-- The inclusive prefix sums of an array along its axis of 4096 rows: entry `(b, n, c)` is the sum of the entries
    `(b, 0, c) … (b, n, c)`. -/
def prefixSum (A : FVec Ideal S2x4096x4096 .f32) : FVec Ideal S2x4096x4096 .f32 := fun j =>
  ∑ i ∈ Finset.range ((j 1).val + 1), if h : i < 4096 then A (ix3 (j 0) ⟨i, h⟩ (j 2)) else (0 : EReal)

/-- A left fold that adds a term at each step is the starting value plus the sum of the terms. -/
theorem foldl_add_eq {N : ℕ} (g : Fin N → EReal) (v : EReal) :
    (List.finRange N).foldl (fun r n => r + g n) v = v + ∑ n, g n := by
  have h : ∀ (l : List (Fin N)) (v : EReal), l.foldl (fun r n => r + g n) v = v + (l.map g).sum := by
    intro l
    induction l with
    | nil => intro v; simp
    | cons a l ih => intro v; rw [List.foldl_cons, ih, List.map_cons, List.sum_cons, add_assoc]
  rw [h, ← List.ofFn_eq_map, List.sum_ofFn]

/-- The positions of a window of shape `[1, 4096, 1]`: its middle coordinate. -/
def windowEquiv : Fin 4096 ≃ (⟨3, ![1, 4096, 1]⟩ : Shape).Idx where
  toFun w := ix3 0 w 0
  invFun p := p 1
  left_inv _ := rfl
  right_inv p := by
    funext a
    match a with
    | ⟨0, _⟩ => exact (Subsingleton.elim (α := Fin 1) _ _)
    | ⟨1, _⟩ => rfl
    | ⟨2, _⟩ => exact (Subsingleton.elim (α := Fin 1) _ _)

/-- Of the 4096 positions of the window that ends at row `n`, the first `4095 - n` are padding and hold zero, the others
    read the rows `0 … n`. -/
theorem sum_window (f : ℕ → EReal) (n : ℕ) (hn : n < 4096) :
    (∑ w : Fin 4096, if 4095 ≤ n + w.val then f (n + w.val - 4095) else 0) = ∑ i ∈ Finset.range (n + 1), f i := by
  rw [Fin.sum_univ_eq_sum_range (fun w => if 4095 ≤ n + w then f (n + w - 4095) else 0) 4096,
    show 4096 = (4095 - n) + (n + 1) by omega, Finset.sum_range_add]
  rw [Finset.sum_eq_zero, zero_add]
  · refine Finset.sum_congr rfl fun i hi => ?_
    rw [if_pos (by omega), show n + (4095 - n + i) - 4095 = i by omega]
  · intro i hi
    rw [if_neg (by have := Finset.mem_range.1 hi; omega)]

/-- The reference's result is the array of prefix sums. -/
theorem result_eq (A : FVec Ideal S2x4096x4096 .f32) :
    Host.reduceWindowAdd ![1, 4096, 1] ![1, 1, 1] ![0, 4095, 0] ![0, 0, 0] A
      (broadcastInDim S_ ![] bcast_S_S_ (constant (F := Ideal) S_ .f32 0x00000000#32))
      reduceWindows_S2x4096x4096_S2x4096x4096_w1s1p0_0_w4096s1p4095_0_w1s1p0_0 h_S_ = prefixSum A := by
  funext j
  have hj1 : (j 1).val < 4096 := (j 1).isLt
  unfold Host.reduceWindowAdd
  rw [Ideal.hostReduceWindowAdd_def]
  unfold Ideal.hostReduceWindowAdd Host.reduceWindow prefixSum
  have hz : broadcastInDim S_ ![] bcast_S_S_ (constant (F := Ideal) S_ .f32 0x00000000#32) (Shape.Idx.first h_S_)
      = (0 : EReal) := by pointwise
  dsimp only
  rw [hz, foldl_add_eq, zero_add]
  rw [← Equiv.sum_comp (Shape.rowMajor ⟨3, ![1, 4096, 1]⟩)]
  rw [← Equiv.sum_comp windowEquiv]
  rw [← sum_window _ _ hj1]
  refine Finset.sum_congr rfl fun w _ => ?_
  have hw : w.val < 4096 := w.isLt
  by_cases h : 4095 ≤ (j 1).val + w.val
  · have hin : ∀ a : Fin 3, (![0, 4095, 0] : Fin 3 → ℕ) a ≤ (j a).val * (![1, 1, 1] : Fin 3 → ℕ) a + (windowEquiv w a).val
        ∧ (j a).val * (![1, 1, 1] : Fin 3 → ℕ) a + (windowEquiv w a).val - (![0, 4095, 0] : Fin 3 → ℕ) a
          < (![2, 4096, 4096] : Fin 3 → ℕ) a := by
      have h0 : (j 0).val < 2 := (j 0).isLt
      have h2 : (j 2).val < 4096 := (j 2).isLt
      intro a
      match a with
      | ⟨0, _⟩ => exact ⟨Nat.zero_le _, by show (j 0).val * 1 + 0 - 0 < 2; omega⟩
      | ⟨1, _⟩ => exact ⟨by show 4095 ≤ (j 1).val * 1 + w.val; omega, by show (j 1).val * 1 + w.val - 4095 < 4096; omega⟩
      | ⟨2, _⟩ => exact ⟨Nat.zero_le _, by show (j 2).val * 1 + 0 - 0 < 4096; omega⟩
    refine (dif_pos fun a => by rw [Equiv.symm_apply_apply]; exact hin a).trans ?_
    rw [if_pos h, dif_pos (by omega : (j 1).val + w.val - 4095 < 4096)]
    refine congrArg A (funext fun a => Fin.ext ?_)
    dsimp only
    rw [Equiv.symm_apply_apply]
    match a with
    | ⟨0, _⟩ => show (j 0).val * 1 + 0 - 0 = (j 0).val; omega
    | ⟨1, _⟩ => show (j 1).val * 1 + w.val - 4095 = (j 1).val + w.val - 4095; omega
    | ⟨2, _⟩ => show (j 2).val * 1 + 0 - 0 = (j 2).val; omega
  · rw [if_neg h]
    refine dif_neg fun hin => h ?_
    have h1 : 4095 ≤ (j 1).val * 1 + w.val := by
      have e := (hin 1).1
      rw [Equiv.symm_apply_apply] at e
      exact e
    omega

end Cert.ReferenceIdeal.Scan

end
-- ==== Proof.KernelValue.lean ====
/-
  The kernel's result array over the extended reals: each grid point writes its block of the prefix sums, and the
  16 blocks cover the array.
-/
module

public import proofs.«01_k».proof.Proof.ChunkValue
public import proofs.«01_k».proof.Proof.RefValue
public import proofs.«01_k».proof.Proof.Gen.KernelIdeal.Value

@[expose] public section

set_option maxRecDepth 16384

noncomputable section

namespace Cert.KernelIdeal.Scan

open Cert.KernelIdeal Cert.KernelIdeal.Gen Idealize.ShloMosaic Idealize.ShloMosaic.TcCoe Idealize.SL.Sem
open Idealize.ShloMosaic.Pipeline (Dat)
open Cert.ReferenceIdeal.Scan (prefixSum)
open scoped BigOperators

/-! ## One block -/

/-- Three zero offsets are the zero function. -/
theorem zero_offsets : (![0, 0, 0] : Fin 3 → Nat) = fun _ => 0 :=
  funext fun a => match a with
    | ⟨0, _⟩ => rfl
    | ⟨1, _⟩ => rfl
    | ⟨2, _⟩ => rfl

/-- The stored result of chunk `k`, read at a position of its rectangle. -/
theorem piece_apply (x0 : Vec Ideal S1x4096x512 .f32) (k : Fin 32) (p : S1x128x512.Idx) :
    shapeCast S1x128x512 (chunkOut x0 k.val) shapeCasts_S128x512_S1x128x512 p
      = ∑ i ∈ Finset.range (128 * k.val + (p 1).val + 1), column x0 (p 2) i := by
  have h : ∀ (r : Fin 128) (c : Fin 512),
      shapeCast S1x128x512 (chunkOut x0 k.val) shapeCasts_S128x512_S1x128x512 (ix3 0 r c) = chunkOut x0 k.val (ix2 r c) := by
    intro r c
    pointwise
  have e : p = ix3 0 (p 1) (p 2) := funext fun a => match a with
    | ⟨0, _⟩ => Subsingleton.elim (α := Fin 1) _ _
    | ⟨1, _⟩ => rfl
    | ⟨2, _⟩ => rfl
  exact (congrArg _ e).trans ((h (p 1) (p 2)).trans (chunkOut_apply x0 (p 2) k.val k.isLt (p 1)))

/-- The body's result of a block: row `n` holds in each column the sum of the block's rows `0 … n`. -/
theorem block_apply (x0 : Vec Ideal S1x4096x512 .f32) (y : S1x4096x512.Idx) :
    out0_1 x0 y = ∑ i ∈ Finset.range ((y 1).val + 1), column x0 (y 2) i := by
  rw [out_eq, View.ld_unit_zero zero_offsets]
  let G : S1x4096x512.Idx → Elt Ideal .f32 := fun y =>
    (∑ i ∈ Finset.range ((y 1).val + 1), column x0 (y 2) i : EReal)
  refine View.canon_apply_of_pieces G _ ?_ y ?_
  · intro q hq p
    obtain ⟨k, _, rfl⟩ := List.mem_map.1 hq
    refine (piece_apply x0 k p).trans ?_
    have e1 : (((chunkPiece x0 k).1.emb p) 1).val = 128 * k.val + (p 1).val := by
      show 128 * k.val + 1 * (p 1).val = _
      omega
    have e2 : ((chunkPiece x0 k).1.emb p) 2 = p 2 := Fin.ext (by
      show 0 + 1 * (p 2).val = (p 2).val
      omega)
    show _ = ∑ i ∈ Finset.range ((((chunkPiece x0 k).1.emb p) 1).val + 1), column x0 (((chunkPiece x0 k).1.emb p) 2) i
    rw [e1, e2]
  · have h0 : (y 0).val < 1 := (y 0).isLt
    have h1 : (y 1).val < 4096 := (y 1).isLt
    have h2 : (y 2).val < 512 := (y 2).isLt
    let k : Fin 32 := ⟨(y 1).val / 128, by omega⟩
    refine ⟨chunkPiece x0 k, List.mem_map.2 ⟨k, by simp, rfl⟩, ?_⟩
    refine (Rect.mem_set_unit (inb := rect_inb k)).2 fun a => ?_
    match a with
    | ⟨0, _⟩ => exact ⟨Nat.zero_le _, by show (y 0).val < 0 + 1; omega⟩
    | ⟨1, _⟩ => exact ⟨by show 128 * ((y 1).val / 128) ≤ (y 1).val; omega,
        by show (y 1).val < 128 * ((y 1).val / 128) + 128; omega⟩
    | ⟨2, _⟩ => exact ⟨Nat.zero_le _, by show (y 2).val < 0 + 512; omega⟩

/-! ## The whole array -/

variable (m : (ℓ : Loc nD τ sig) → Buf (Elt Ideal) ℓ) (ρ : Dev nD → PrngReg)

/-- The prefix sums of device `c`'s argument array: what the result array is shown to hold. -/
abbrev target (c : Dev nD) : Buf (Elt Ideal) ((c : Thread nD τ).loc main_v0) :=
  prefixSum (m ((c : Thread nD τ).loc main_arg0))

/-- Both windows' block indices at point `t`: batch `t / 8`, all rows, column block `t % 8`. -/
theorem block_index : ∀ t : Fin cfg0.N,
    (win0_0.index t 0 = t.val / 8 ∧ win0_0.index t 1 = 0 ∧ win0_0.index t 2 = t.val % 8)
    ∧ (win0_1.index t 0 = t.val / 8 ∧ win0_1.index t 1 = 0 ∧ win0_1.index t 2 = t.val % 8) :=
  (by decide +kernel : ∀ t : Fin grid0.N,
    (win0_0.index t 0 = t.val / 8 ∧ win0_0.index t 1 = 0 ∧ win0_0.index t 2 = t.val % 8)
    ∧ (win0_1.index t 0 = t.val / 8 ∧ win0_1.index t 1 = 0 ∧ win0_1.index t 2 = t.val % 8))

/-- Where the result window's block at `t` puts its position `y` in the array. -/
theorem out_pos (t : Fin cfg0.N) (y : S1x4096x512.Idx) :
    (((win0_1.blk t).view.emb y) 0).val = t.val / 8 ∧ (((win0_1.blk t).view.emb y) 1).val = (y 1).val
      ∧ (((win0_1.blk t).view.emb y) 2).val = t.val % 8 * 512 + (y 2).val := by
  obtain ⟨-, h0, h1, h2⟩ := block_index t
  have hy : (y 0).val < 1 := (y 0).isLt
  refine ⟨?_, ?_, ?_⟩
  · show win0_1.index t 0 * 1 + 1 * (y 0).val = _
    rw [h0]; omega
  · show win0_1.index t 1 * 4096 + 1 * (y 1).val = _
    rw [h1]; omega
  · show win0_1.index t 2 * 512 + 1 * (y 2).val = _
    rw [h2]; omega

/-- Where the argument window's block at `t` reads its position `y` in the array. -/
theorem in_pos (t : Fin cfg0.N) (y : S1x4096x512.Idx) :
    (((win0_0.blk t).view.emb y) 0).val = t.val / 8 ∧ (((win0_0.blk t).view.emb y) 1).val = (y 1).val
      ∧ (((win0_0.blk t).view.emb y) 2).val = t.val % 8 * 512 + (y 2).val := by
  obtain ⟨⟨h0, h1, h2⟩, -⟩ := block_index t
  have hy : (y 0).val < 1 := (y 0).isLt
  refine ⟨?_, ?_, ?_⟩
  · show win0_0.index t 0 * 1 + 1 * (y 0).val = _
    rw [h0]; omega
  · show win0_0.index t 1 * 4096 + 1 * (y 1).val = _
    rw [h1]; omega
  · show win0_0.index t 2 * 512 + 1 * (y 2).val = _
    rw [h2]; omega

/-- What point `t` writes back is its block of the prefix sums. -/
theorem flushed_eq (c : Dev nD) (t : Fin cfg0.N) :
    (dats m 0 c).flushed 1 t = (win0_1.blk t).view.read (Elt Ideal) (target m c) := by
  rw [Value.flushed1]
  funext y
  change S1x4096x512.Idx at y
  show out0_1 (iblk m c 0 t) y = prefixSum (m ((c : Thread nD τ).loc main_arg0)) ((win0_1.blk t).view.emb y)
  rw [block_apply]
  obtain ⟨o0, o1, o2⟩ := out_pos t y
  unfold prefixSum
  rw [o1]
  refine Finset.sum_congr rfl fun i _ => ?_
  unfold column
  split
  · next h =>
    obtain ⟨a0, a1, a2⟩ := in_pos t (ix3 0 ⟨i, h⟩ (y 2))
    show m ((c : Thread nD τ).loc main_arg0) ((win0_0.blk t).view.emb (ix3 0 ⟨i, h⟩ (y 2))) = _
    refine congrArg (m ((c : Thread nD τ).loc main_arg0)) (funext fun a => Fin.ext ?_)
    match a with
    | ⟨0, _⟩ => exact a0.trans o0.symm
    | ⟨1, _⟩ => exact a1
    | ⟨2, _⟩ => exact a2.trans o2.symm
  · rfl

/-- The result's blocks cover its array: position `(b, n, j)` is in the block of point `8 b + j / 512`. -/
theorem cover (i : S2x4096x4096.Idx) :
    ∃ t : Fin cfg0.N, (cfg0.win 1).flush t = true ∧ i ∈ ((cfg0.win 1).blk t).view.set := by
  have h0 : (i 0).val < 2 := (i 0).isLt
  have h1 : (i 1).val < 4096 := (i 1).isLt
  have h2 : (i 2).val < 4096 := (i 2).isLt
  have hN : cfg0.N = 16 := N_0
  let t : Fin cfg0.N := ⟨8 * (i 0).val + (i 2).val / 512, by omega⟩
  obtain ⟨-, e0, e1, e2⟩ := block_index t
  refine ⟨t, flush0_1 _, ?_⟩
  show i ∈ ((View.whole main_v0).slice (win0_1.rect t)).set
  rw [View.set_slice_whole, Rect.mem_set_unit]
  have ht : t.val = 8 * (i 0).val + (i 2).val / 512 := rfl
  intro a
  match a with
  | ⟨0, _⟩ =>
    show win0_1.index t 0 * 1 ≤ (i 0).val ∧ (i 0).val < win0_1.index t 0 * 1 + 1
    rw [e0]; omega
  | ⟨1, _⟩ =>
    show win0_1.index t 1 * 4096 ≤ (i 1).val ∧ (i 1).val < win0_1.index t 1 * 4096 + 4096
    rw [e1]; omega
  | ⟨2, _⟩ =>
    show win0_1.index t 2 * 512 ≤ (i 2).val ∧ (i 2).val < win0_1.index t 2 * 512 + 512
    rw [e2]; omega

/-- So the result array ends holding the prefix sums of the argument. -/
theorem final (c : Dev nD) : (dats m 0 c).arrAt 1 cfg0.N = target m c :=
  (dats m 0 c).arrAt_eq_of_cover 1 (target m c) (fun t _ => flushed_eq m c t) cover

/-- The kernel's run: the result is the prefix sums of the argument, and the argument is unchanged. -/
theorem run : θ_run defs (onTc (τ := τ) (main (F := Ideal))) ⟨m, fun _ => 0, ρ⟩ fun r => ∀ c : Dev nD,
      r.2.mem ((c : Thread nD τ).loc main_v0) = target m c
      ∧ r.2.mem ((c : Thread nD τ).loc main_arg0) = m ((c : Thread nD τ).loc main_arg0) :=
  (θ_run defs _ _).mono (fun _ h c => ⟨(h c).1.trans (final m c), (h c).2⟩) (Value.run_blocks m ρ)

end Cert.KernelIdeal.Scan

end
-- ==== Proof.lean ====
/-
  The five claims, put together: the programs' frames, the idealization (which rewrote nothing), and the equality of
  the kernel's and the reference's results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelValue
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its argument as it was and every semaphore counter at zero. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Over the extended reals, from equal arguments, the kernel and the reference both end with the prefix sums of the
    argument along its rows. -/
theorem same_result : Cert.algebraic_KernelIdeal_ReferenceIdeal := fun m ρ m' ρ' _ hagree =>
  ⟨fun c => Cert.KernelIdeal.Scan.target m c, Cert.KernelIdeal.Scan.run m ρ,
    (θ_run Cert.ReferenceIdeal.defs _ _).mono
      (fun _ h c => ⟨(h c).1.trans ((Cert.ReferenceIdeal.Scan.result_eq _).trans
        (congrArg Cert.ReferenceIdeal.Scan.prefixSum (hagree c))), (h c).2⟩)
      (Cert.ReferenceIdeal.Value.run (F := Ideal) m' ρ')⟩

/-- All five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial,
    same_result⟩

end Cert.Proof

end
